-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_real [hPre_scores_real : Cert.Pre_scores_real.Facts] (m : (ℓ : Loc Cert.KernelIdeal.nD Cert.KernelIdeal.τ Cert.KernelIdeal.sig) → Buf (Elt Ideal) ℓ) : Prop :=
  ∀ c : Dev Cert.KernelIdeal.nD,
    (Cert.Pre_scores_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_real [hPre_scores_real : Cert.Pre_scores_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scores_real [hKernelIdeal : Cert.KernelIdeal.Facts] [hPre_scores_real : Cert.Pre_scores_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scores_real [hReferenceIdeal : Cert.ReferenceIdeal.Facts] [hPre_scores_real : Cert.Pre_scores_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "c2" .bf16 0x3B83#16 (((Real.log 2)⁻¹ * (Real.sqrt 131072)⁻¹ : ℝ) : EReal)
  ∧ IdealRules.named_const.Statement Cert.KernelIdeal.κ "c2" .f32 0x3B8293EE#32 (((Real.log 2)⁻¹ * (Real.sqrt 131072)⁻¹ : ℝ) : EReal)

def algebraic_KernelIdeal_ReferenceIdeal_pre_scores_real [hKernelIdeal : Cert.KernelIdeal.Facts] [hReferenceIdeal : Cert.ReferenceIdeal.Facts] [hPre_scores_real : Cert.Pre_scores_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scores_real : Cert.Pre_scores_real.Facts),
    quiescent_Kernel (hKernel := hKernel)
    ∧ quiescent_KernelIdeal (hKernelIdeal := hKernelIdeal)
    ∧ quiescent_KernelIdeal_pre_scores_real (hKernelIdeal := hKernelIdeal) (hPre_scores_real := hPre_scores_real)
    ∧ quiescent_ReferenceIdeal (hReferenceIdeal := hReferenceIdeal)
    ∧ quiescent_ReferenceIdeal_pre_scores_real (hReferenceIdeal := hReferenceIdeal) (hPre_scores_real := hPre_scores_real)
    ∧ preserves_Kernel_KernelIdeal
    ∧ algebraic_KernelIdeal_ReferenceIdeal_pre_scores_real (hKernelIdeal := hKernelIdeal) (hReferenceIdeal := hReferenceIdeal) (hPre_scores_real := hPre_scores_real)
-- ==== Pre_scores_real.lean ====
abbrev S4x16x16x16x512 : Shape := ⟨5, ![4, 16, 16, 16, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S_ : Shape := ⟨0, ![]⟩

class Facts : Prop where
  bcast_S_S4x16x16x16x512 : S_.BroadcastsInDim S4x16x16x16x512 (![] : Fin 0 → Fin S4x16x16x16x512.rank)
  reducesTo_S4x16x16x16x512_S_d0_1_2_3_4 : S4x16x16x16x512.ReducesTo [0, 1, 2, 3, 4] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x16x16x16x512 .f32) (main_arg1 : FVec F S512x128 .f32) (main_arg2 : FVec F S128 .f32) (main_arg3 : FVec F S512x128 .f32) (main_arg4 : FVec F S128 .f32) (main_arg5 : FVec F S512x128 .f32) (main_arg6 : FVec F S128 .f32) (main_arg7 : FVec F S128x512 .f32) (main_arg8 : FVec F S512 .f32) : IVec S_ 1 :=
  let main_v0 : FVec F S4x16x16x16x512 .f32 := Host.absf main_arg0
  let main_cst : FVec F S_ .f32 := constant S_ .f32 0x7F800000#32
  let main_v1 : FVec F S4x16x16x16x512 .f32 := broadcastInDim S4x16x16x16x512 ![] bcast_S_S4x16x16x16x512 main_cst
  let main_v2 : IVec S4x16x16x16x512 1 := cmpf .olt main_v0 main_v1
  let main_c : IVec S_ 1 := constantI S_ 1 1#1
  let main_v3 : IVec S_ 1 := (fun x v => Host.reduce IntOp.andi x v reducesTo_S4x16x16x16x512_S_d0_1_2_3_4 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S4x16x16x16x512 : Shape := ⟨5, ![4, 16, 16, 16, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S4x4096x512 : Shape := ⟨3, ![4, 4096, 512]⟩
abbrev S1x128 : Shape := ⟨2, ![1, 128]⟩
abbrev S1x512 : Shape := ⟨2, ![1, 512]⟩
abbrev S1x4096x512 : Shape := ⟨3, ![1, 4096, 512]⟩
abbrev S1x1024x512 : Shape := ⟨3, ![1, 1024, 512]⟩
abbrev S4096x128 : Shape := ⟨2, ![4096, 128]⟩
abbrev S128x4096 : Shape := ⟨2, ![128, 4096]⟩
abbrev S4096x256 : Shape := ⟨2, ![4096, 256]⟩
abbrev S512x384 : Shape := ⟨2, ![512, 384]⟩
abbrev S1x384 : Shape := ⟨2, ![1, 384]⟩
abbrev S4096x512 : Shape := ⟨2, ![4096, 512]⟩
abbrev S4096x384 : Shape := ⟨2, ![4096, 384]⟩
abbrev S1024x128 : Shape := ⟨2, ![1024, 128]⟩
abbrev S1024x256 : Shape := ⟨2, ![1024, 256]⟩
abbrev S1024x1 : Shape := ⟨2, ![1024, 1]⟩
abbrev S1024x512 : Shape := ⟨2, ![1024, 512]⟩
abbrev S1024 : Shape := ⟨1, ![1024]⟩
abbrev S512x256 : Shape := ⟨2, ![512, 256]⟩

abbrev nBuf : Space → Nat
  | .hbm => 15
  | .vmem => 15
  | .smem => 0
  | _ => 0

abbrev bufTy : (tb : Table) → Fin (tcTables nBuf tb) → BufTy
  | .hbm, ⟨0, _⟩ => ⟨S4x16x16x16x512, .f32⟩
  | .hbm, ⟨1, _⟩ => ⟨S512x128, .f32⟩
  | .hbm, ⟨2, _⟩ => ⟨S128, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S4x4096x512, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x512, .f32⟩
  | .hbm, ⟨14, _⟩ => ⟨S4x4096x512, .f32⟩
  | .local _ .vmem, ⟨0, _⟩ => ⟨S1x4096x512, .f32⟩
  | .local _ .vmem, ⟨1, _⟩ => ⟨S1x4096x512, .f32⟩
  | .local _ .vmem, ⟨2, _⟩ => ⟨S512x128, .f32⟩
  | .local _ .vmem, ⟨3, _⟩ => ⟨S1x128, .f32⟩
  | .local _ .vmem, ⟨4, _⟩ => ⟨S512x128, .f32⟩
  | .local _ .vmem, ⟨5, _⟩ => ⟨S1x128, .f32⟩
  | .local _ .vmem, ⟨6, _⟩ => ⟨S512x128, .f32⟩
  | .local _ .vmem, ⟨7, _⟩ => ⟨S1x128, .f32⟩
  | .local _ .vmem, ⟨8, _⟩ => ⟨S128x512, .f32⟩
  | .local _ .vmem, ⟨9, _⟩ => ⟨S1x512, .f32⟩
  | .local _ .vmem, ⟨10, _⟩ => ⟨S1x1024x512, .f32⟩
  | .local _ .vmem, ⟨11, _⟩ => ⟨S1x1024x512, .f32⟩
  | .local _ .vmem, ⟨12, _⟩ => ⟨S4096x128, .bf16⟩
  | .local _ .vmem, ⟨13, _⟩ => ⟨S128x4096, .bf16⟩
  | .local _ .vmem, ⟨14, _⟩ => ⟨S4096x256, .bf16⟩
  | _, _ => ⟨S4x16x16x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : Index := Scalar.indexCast v3
  let c0 : Index := 0#32
  ![v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "c2" => some (((Real.log 2)⁻¹ * (Real.sqrt 131072)⁻¹ : ℝ) : EReal)
  | _ => none
-- ==== ReferenceIdeal.lean ====
abbrev S4x16x16x16x512 : Shape := ⟨5, ![4, 16, 16, 16, 512]⟩
abbrev S512x128 : Shape := ⟨2, ![512, 128]⟩
abbrev S128 : Shape := ⟨1, ![128]⟩
abbrev S128x512 : Shape := ⟨2, ![128, 512]⟩
abbrev S512 : Shape := ⟨1, ![512]⟩
abbrev S4x16x16x16x128 : Shape := ⟨5, ![4, 16, 16, 16, 128]⟩
abbrev S1x1x1x1x128 : Shape := ⟨5, ![1, 1, 1, 1, 128]⟩
abbrev S4x4096x128 : Shape := ⟨3, ![4, 4096, 128]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩
abbrev S1x1x1x1x512 : Shape := ⟨5, ![1, 1, 1, 1, 512]⟩
abbrev S4x4096x512 : Shape := ⟨3, ![4, 4096, 512]⟩

abbrev nBuf : Space → Nat
  | .hbm => 50
  | .vmem => 0
  | .smem => 0
  | _ => 0

abbrev bufTy : (tb : Table) → Fin (tcTables nBuf tb) → BufTy
  | .hbm, ⟨0, _⟩ => ⟨S4x16x16x16x512, .f32⟩
  | .hbm, ⟨1, _⟩ => ⟨S512x128, .f32⟩
  | .hbm, ⟨2, _⟩ => ⟨S128, .f32⟩
  | .hbm, ⟨3, _⟩ => ⟨S512x128, .f32⟩
  | .hbm, ⟨4, _⟩ => ⟨S128, .f32⟩
  | .hbm, ⟨5, _⟩ => ⟨S512x128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S4x16x16x16x128, .f32⟩
  | .hbm, ⟨10, _⟩ => ⟨S1x1x1x1x128, .f32⟩
  | .hbm, ⟨11, _⟩ => ⟨S4x16x16x16x128, .f32⟩
  | .hbm, ⟨12, _⟩ => ⟨S4x16x16x16x128, .f32⟩
  | .hbm, ⟨13, _⟩ => ⟨S4x4096x128, .f32⟩
  | .hbm, ⟨14, _⟩ => ⟨S4x16x16x16x128, .f32⟩
  | .hbm, ⟨15, _⟩ => ⟨S1x1x1x1x128, .f32⟩
  | .hbm, ⟨16, _⟩ => ⟨S4x16x16x16x128, .f32⟩
  | .hbm, ⟨17, _⟩ => ⟨S4x16x16x16x128, .f32⟩
  | .hbm, ⟨18, _⟩ => ⟨S4x4096x128, .f32⟩
  | .hbm, ⟨19, _⟩ => ⟨S4x16x16x16x128, .f32⟩
  | .hbm, ⟨20, _⟩ => ⟨S1x1x1x1x128, .f32⟩
  | .hbm, ⟨21, _⟩ => ⟨S4x16x16x16x128, .f32⟩
  | .hbm, ⟨22, _⟩ => ⟨S4x16x16x16x128, .f32⟩
  | .hbm, ⟨23, _⟩ => ⟨S4x4096x128, .f32⟩
  | .hbm, ⟨24, _⟩ => ⟨S_, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | .hbm, ⟨43, _⟩ => ⟨S4x4096x128, .f32⟩
  | .hbm, ⟨44, _⟩ => ⟨S4x16x16x16x128, .f32⟩
  | .hbm, ⟨45, _⟩ => ⟨S4x16x16x16x512, .f32⟩
  | .hbm, ⟨46, _⟩ => ⟨S1x1x1x1x512, .f32⟩
  | .hbm, ⟨47, _⟩ => ⟨S4x16x16x16x512, .f32⟩
  | .hbm, ⟨48, _⟩ => ⟨S4x16x16x16x512, .f32⟩
  | .hbm, ⟨49, _⟩ => ⟨S4x4096x512, .f32⟩
  | _, _ => ⟨S4x16x16x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Block.lean ====
/-
  WHAT THE BODY LEAVES AT ONE GRID POINT, as the payload operations over whole vectors.

  The body keeps three scratch arrays: the projected keys `kk`, the projected queries transposed `qt`, and the
  projected values with a slab of ones beside them `vp`. `blockOut` is the output block as a function of them; a
  point that starts a batch fills the scratch first and then computes the same function (`out_A`, `out_B`).
-/
module

public import proofs.«01_k».proof.Proof.Gen.KernelIdeal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F] [Named F]

/-- The scores of the block's 1024 keys against one chunk of 512 queries. -/
def scores (kh : Vec F S1024x128 .bf16) (qc : Vec F S128x512 .bf16) : FVec F S1024x512 .bf16 :=
  truncf .bf16 (matmul dot_S1024x128_S128x512_S1024x512_1_0_0_1_n_n none kh qc (constant S1024x512 .f32 0x00000000#32)) bitsLt_bf16_f32

/-- The running row maximum, carried over one more chunk of scores. -/
def newMax (s : FVec F S1024x512 .bf16) (mx : FVec F S1024x1 .bf16) : FVec F S1024x1 .bf16 :=
  maximumf mx (shapeCast S1024x1 (multiReduction .maximumf [1] S1024 s 0xFF80#16 reduces_S1024x512_S1024 (.inr rfl) rfl) shapeCasts_S1024_S1024x1)

/-- The running accumulator, carried over one more chunk: the old one rescaled to the new maximum `mn`, plus the
    chunk's weights times its values. -/
def newAcc (s : FVec F S1024x512 .bf16) (mx mn : FVec F S1024x1 .bf16) (vc : Vec F S512x256 .bf16) (acc : FVec F S1024x256 .f32) :
    FVec F S1024x256 .f32 :=
  addf
    (mulf acc (broadcastTo S1024x256 (exp2 (mulf (extf .f32 (subf mx mn) bitsLt_bf16_f32)
      (broadcast S1024x1 (Named.named κ "c2" 0x3B8293EE#32 : F .f32)))) broadcasts_S1024x1_S1024x256))
    (matmul dot_S1024x512_S512x256_S1024x256_1_0_0_1_n_n none
      (exp2 (mulf (subf s (broadcastTo S1024x512 mn broadcasts_S1024x1_S1024x512))
        (broadcast S1024x512 (Named.named κ "c2" 0x3B83#16 : F .bf16)))) vc (constant S1024x256 .f32 0x00000000#32))

/-- The two running quantities of the sweep over the chunks. -/
abbrev Run (F : FTy → Type) [FloatOps F] := FVec F S1024x1 .bf16 × FVec F S1024x256 .f32

/-- One chunk of the sweep. -/
def step (kh : Vec F S1024x128 .bf16) (qc : Vec F S128x512 .bf16) (vc : Vec F S512x256 .bf16) (r : Run F) : Run F :=
  (newMax (scores kh qc) r.1, newAcc (scores kh qc) r.1 (newMax (scores kh qc) r.1) vc r.2)

/-- Where the sweep starts: no maximum yet, nothing accumulated. -/
def start : Run F :=
  (broadcast S1024x1 (Scalar.ofBits .bf16 0xFF80#16), broadcast S1024x256 (Scalar.ofBits .f32 0x00000000#32))

/-- The 512 columns of the transposed queries from column `o` on. -/
def qChunk (qt : Vec F S128x4096 .bf16) (o : ℕ) (h : o + 512 ≤ 4096) : Vec F S128x512 .bf16 :=
  fun i => qt (ix2 (i 0) ⟨o + (i 1).val, by have : (i 1).val < 512 := (i 1).isLt; omega⟩)

/-- The 512 rows of the values from row `o` on. -/
def vChunk (vp : Vec F S4096x256 .bf16) (o : ℕ) (h : o + 512 ≤ 4096) : Vec F S512x256 .bf16 :=
  fun i => vp (ix2 ⟨o + (i 0).val, by have : (i 0).val < 512 := (i 0).isLt; omega⟩ (i 1))

/-- The rows of the keys that the block with number `b` reads. -/
def kRows (kk : Vec F S4096x128 .bf16) (b : ℕ) (h : b < 4) : Vec F S1024x128 .bf16 :=
  fun i => kk (ix2 ⟨1024 * b + (i 0).val, by have : (i 0).val < 1024 := (i 0).isLt; omega⟩ (i 1))

/-- The sweep over the first `n` chunks. -/
def sweep (kh : Vec F S1024x128 .bf16) (qt : Vec F S128x4096 .bf16) (vp : Vec F S4096x256 .bf16) : (n : ℕ) → 512 * n ≤ 4096 → Run F
  | 0, _ => start
  | n + 1, h => step kh (qChunk qt (512 * n) (by omega)) (vChunk vp (512 * n) (by omega)) (sweep kh qt vp n (by omega))

/-- After the sweep: the numerators over the sums, times the restoring weights, plus the bias. -/
def finish (acc : FVec F S1024x256 .f32) (rw : Vec F S128x512 .f32) (rb : Vec F S1x512 .f32) : FVec F S1x1024x512 .f32 :=
  shapeCast S1x1024x512
    (addf
      (matmul dot_S1024x128_S128x512_S1024x512_1_0_0_1_n_n none
        (truncf .bf16 (divf (extractStridedSlice S1024x128 ![0, 0] acc slices_S1024x256_o0_0_S1024x128)
          (extractStridedSlice S1024x128 ![0, 128] acc slices_S1024x256_o0_128_S1024x128)) bitsLt_bf16_f32)
        (truncf .bf16 rw bitsLt_bf16_f32) (constant S1024x512 .f32 0x00000000#32))
      (broadcastTo S1024x512 (shapeCast S1x512 rb shapeCasts_S1x512_S1x512) broadcasts_S1x512_S1024x512))
    shapeCasts_S1024x512_S1x1024x512

/-- The output block numbered `b` of a batch whose scratch holds `kk`, `qt`, `vp`. -/
def blockOut (b : ℕ) (hb : b < 4) (kk : Vec F S4096x128 .bf16) (qt : Vec F S128x4096 .bf16) (vp : Vec F S4096x256 .bf16)
    (rw : Vec F S128x512 .f32) (rb : Vec F S1x512 .f32) : FVec F S1x1024x512 .f32 :=
  finish (sweep (kRows kk b hb) qt vp 8 (by decide)).2 rw rb

/-- A load of 512 columns of the transposed queries. -/
theorem ld_q (qt : Vec F S128x4096 .bf16) (o : ℕ) (inb : ∀ a, (![0, o] : Fin 2 → ℕ) a + (![128, 512] : Fin 2 → ℕ) a ≤ S128x4096.size a) :
    View.ld qt (Rect.unit (s := S128x4096) ![0, o] ![128, 512] inb) = qChunk qt o (inb 1) := by
  funext i
  refine congrArg qt (funext fun a => Fin.ext ?_)
  match a with
  | ⟨0, _⟩ => show 0 + 1 * (i 0).val = (i 0).val; omega
  | ⟨1, _⟩ => show o + 1 * (i 1).val = o + (i 1).val; omega

/-- A load of 512 rows of the values. -/
theorem ld_v (vp : Vec F S4096x256 .bf16) (o : ℕ) (inb : ∀ a, (![o, 0] : Fin 2 → ℕ) a + (![512, 256] : Fin 2 → ℕ) a ≤ S4096x256.size a) :
    View.ld vp (Rect.unit (s := S4096x256) ![o, 0] ![512, 256] inb) = vChunk vp o (inb 0) := by
  funext i
  refine congrArg vp (funext fun a => Fin.ext ?_)
  match a with
  | ⟨0, _⟩ => show o + 1 * (i 0).val = o + (i 0).val; omega
  | ⟨1, _⟩ => show 0 + 1 * (i 1).val = (i 1).val; omega

/-- The body's load of its 1024 keys reads the rows of its block. -/
theorem ld_k (kk : Vec F S4096x128 .bf16) (i : grid0.Coords) :
    View.ld kk (Rect.unit (s := S4096x128) (k0_off1 i) ![1024, 128] (k0_off1_inb i)) = kRows kk (i 1).val (i 1).isLt := by
  funext j
  refine congrArg kk (funext fun a => Fin.ext ?_)
  have e0 : k0_off1 i 0 = 1024 * (i 1).val := congrFun (k0_off1_eq i) 0
  have e1 : k0_off1 i 1 = 0 := congrFun (k0_off1_eq i) 1
  match a with
  | ⟨0, _⟩ =>
    show k0_off1 i 0 + 1 * (j 0).val = 1024 * (i 1).val + (j 0).val
    omega
  | ⟨1, _⟩ =>
    show k0_off1 i 1 + 1 * (j 1).val = (j 1).val
    omega

/-- A point that does not start a batch leaves the output block computed from the scratch it finds. -/
theorem out_B (c : Dev nD) (i : grid0.Coords) (a2 h2 a3 h3 a4 h4 a5 h5 a6 h6 a7 h7 a8 h8 a9 h9 a10 h10 a11 h11 a12 h12 a13 h13 a14 h14) (hc)
    (x0 : Vec F S1x4096x512 .f32) (x1 : Vec F S512x128 .f32) (x2 : Vec F S1x128 .f32) (x3 : Vec F S512x128 .f32) (x4 : Vec F S1x128 .f32) (x5 : Vec F S512x128 .f32) (x6 : Vec F S1x128 .f32) (x7 : Vec F S128x512 .f32) (x8 : Vec F S1x512 .f32)
    (kk : Vec F S4096x128 .bf16) (qt : Vec F S128x4096 .bf16) (vp : Vec F S4096x256 .bf16) :
    out0_B_9 c i a2 h2 a3 h3 a4 h4 a5 h5 a6 h6 a7 h7 a8 h8 a9 h9 a10 h10 a11 h11 a12 h12 a13 h13 a14 h14 hc x0 x1 x2 x3 x4 x5 x6 x7 x8 kk qt vp
      = blockOut (i 1).val (i 1).isLt kk qt vp x7 x8 := by
  frame_out
  simp only [ld_q, ld_v, ld_k]
  rfl

/-- A load of the whole of a block the point was given reads that block. -/
theorem ld_unread {κ : Kind} {sp : Space} {s : Shape} {e : EltTy} {a : Memref sig κ sp s e} (h : a.IsWhole) (x : Vec F s e) (off : Fin s.rank → ℕ) (h0 : ∀ a, off a = 0)
    (inb : ∀ a, off a + s.size a ≤ s.size a) : View.ld (View.read (Elt F) a.view (h.unread x)) (Rect.unit off s.size inb) = x := by
  rw [h.read_unread]
  exact View.ld_unit_zero (funext h0) inb x

set_option maxRecDepth 16384 in
/-- A point that starts a batch leaves the block computed from the scratch it has just filled. -/
theorem out_A (c : Dev nD) (i : grid0.Coords) (a2 h2 a3 h3 a4 h4 a5 h5 a6 h6 a7 h7 a8 h8 a9 h9 a10 h10 a11 h11 a12 h12 a13 h13 a14 h14) (hc)
    (x0 : Vec F S1x4096x512 .f32) (x1 : Vec F S512x128 .f32) (x2 : Vec F S1x128 .f32) (x3 : Vec F S512x128 .f32) (x4 : Vec F S1x128 .f32) (x5 : Vec F S512x128 .f32) (x6 : Vec F S1x128 .f32) (x7 : Vec F S128x512 .f32) (x8 : Vec F S1x512 .f32) :
    out0_A_9 c i a2 h2 a3 h3 a4 h4 a5 h5 a6 h6 a7 h7 a8 h8 a9 h9 a10 h10 a11 h11 a12 h12 a13 h13 a14 h14 hc x0 x1 x2 x3 x4 x5 x6 x7 x8
      = blockOut (i 1).val (i 1).isLt (k0_pay3 x1 x3 x5 x2 x4 x6 x0) (k0_pay4 x1 x3 x5 x2 x4 x6 x0) (k0_pay5 x1 x3 x5 x2 x4 x6 x0) x7 x8 := by
  frame_open
  simp (disch := decide) only [↓ View.readCov_skip, ↓ View.readCov_cons_toLoadRect, ↓ View.readCov_fill]
  frame_out
  rw [ld_unread h2 x0 ![0, 0, 0] (by decide), ld_unread h3 x1 ![0, 0] (by decide), ld_unread h4 x2 ![0, 0] (by decide), ld_unread h5 x3 ![0, 0] (by decide), ld_unread h6 x4 ![0, 0] (by decide),
    ld_unread h7 x5 ![0, 0] (by decide), ld_unread h8 x6 ![0, 0] (by decide)]
  simp only [ld_q, ld_v, ld_k]
  rfl

/-- A point that starts a batch leaves the projected keys, -/
theorem kk_A (c : Dev nD) (i : grid0.Coords) (a2 h2 a3 h3 a4 h4 a5 h5 a6 h6 a7 h7 a8 h8 a9 h9 a10 h10 a11 h11 a12 h12 a13 h13 a14 h14) (hc)
    (x0 : Vec F S1x4096x512 .f32) (x1 : Vec F S512x128 .f32) (x2 : Vec F S1x128 .f32) (x3 : Vec F S512x128 .f32) (x4 : Vec F S1x128 .f32) (x5 : Vec F S512x128 .f32) (x6 : Vec F S1x128 .f32) (x7 : Vec F S128x512 .f32) (x8 : Vec F S1x512 .f32) :
    sout0_A_0 c i a2 h2 a3 h3 a4 h4 a5 h5 a6 h6 a7 h7 a8 h8 a9 h9 a10 h10 a11 h11 a12 h12 a13 h13 a14 h14 hc x0 x1 x2 x3 x4 x5 x6 x7 x8
      = k0_pay3 x1 x3 x5 x2 x4 x6 x0 := by
  frame_out
  show k0_pay3 _ _ _ _ _ _ _ = _
  simp (disch := decide) only [Memref.IsWhole.read_unread, View.ld_unit_lit']

/-- … the projected queries transposed, -/
theorem qt_A (c : Dev nD) (i : grid0.Coords) (a2 h2 a3 h3 a4 h4 a5 h5 a6 h6 a7 h7 a8 h8 a9 h9 a10 h10 a11 h11 a12 h12 a13 h13 a14 h14) (hc)
    (x0 : Vec F S1x4096x512 .f32) (x1 : Vec F S512x128 .f32) (x2 : Vec F S1x128 .f32) (x3 : Vec F S512x128 .f32) (x4 : Vec F S1x128 .f32) (x5 : Vec F S512x128 .f32) (x6 : Vec F S1x128 .f32) (x7 : Vec F S128x512 .f32) (x8 : Vec F S1x512 .f32) :
    sout0_A_1 c i a2 h2 a3 h3 a4 h4 a5 h5 a6 h6 a7 h7 a8 h8 a9 h9 a10 h10 a11 h11 a12 h12 a13 h13 a14 h14 hc x0 x1 x2 x3 x4 x5 x6 x7 x8
      = k0_pay4 x1 x3 x5 x2 x4 x6 x0 := by
  frame_out
  show k0_pay4 _ _ _ _ _ _ _ = _
  simp (disch := decide) only [Memref.IsWhole.read_unread, View.ld_unit_lit']

/-- … and the projected values beside ones. -/
theorem vp_A (c : Dev nD) (i : grid0.Coords) (a2 h2 a3 h3 a4 h4 a5 h5 a6 h6 a7 h7 a8 h8 a9 h9 a10 h10 a11 h11 a12 h12 a13 h13 a14 h14) (hc)
    (x0 : Vec F S1x4096x512 .f32) (x1 : Vec F S512x128 .f32) (x2 : Vec F S1x128 .f32) (x3 : Vec F S512x128 .f32) (x4 : Vec F S1x128 .f32) (x5 : Vec F S512x128 .f32) (x6 : Vec F S1x128 .f32) (x7 : Vec F S128x512 .f32) (x8 : Vec F S1x512 .f32) :
    sout0_A_2 c i a2 h2 a3 h3 a4 h4 a5 h5 a6 h6 a7 h7 a8 h8 a9 h9 a10 h10 a11 h11 a12 h12 a13 h13 a14 h14 hc x0 x1 x2 x3 x4 x5 x6 x7 x8
      = k0_pay5 x1 x3 x5 x2 x4 x6 x0 := by
  frame_out
  show k0_pay5 _ _ _ _ _ _ _ = _
  simp (disch := decide) only [Memref.IsWhole.read_unread, View.ld_unit_lit']

end Cert.KernelIdeal.Block

end
-- ==== Proof.Points.lean ====
/-
  WHAT THE SCRATCH AND THE RESULT HOLD, POINT BY POINT.

  The sixteen points run batch by batch, four blocks of 1024 rows each. The first point of a batch fills the scratch
  with that batch's projections and the other three find it there; so after any point the output block is `blockOut`
  of the projections of the point's batch, and the whole result is read off block by block.
-/
module

public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The keys projected from the blocks that point `t` is given. -/
def kkAt (c : Dev nD) (t : Fin cfg0.N) : Vec F S4096x128 .bf16 :=
  k0_pay3 (iblk m c 1 t) (iblk m c 3 t) (iblk m c 5 t) (iblk m c 2 t) (iblk m c 4 t) (iblk m c 6 t) (iblk m c 0 t)

/-- The queries projected from the blocks that point `t` is given, transposed. -/
def qtAt (c : Dev nD) (t : Fin cfg0.N) : Vec F S128x4096 .bf16 :=
  k0_pay4 (iblk m c 1 t) (iblk m c 3 t) (iblk m c 5 t) (iblk m c 2 t) (iblk m c 4 t) (iblk m c 6 t) (iblk m c 0 t)

/-- The values projected from the blocks that point `t` is given, beside ones. -/
def vpAt (c : Dev nD) (t : Fin cfg0.N) : Vec F S4096x256 .bf16 :=
  k0_pay5 (iblk m c 1 t) (iblk m c 3 t) (iblk m c 5 t) (iblk m c 2 t) (iblk m c 4 t) (iblk m c 6 t) (iblk m c 0 t)

/-- The point that starts the batch of point `n`. -/
def firstPt (n : ℕ) (h : n < cfg0.N) : Fin cfg0.N := ⟨4 * (n / 4), lt_of_le_of_lt (Nat.mul_div_le n 4) h⟩

/-- After point `n` the scratch holds the projections made at the first point of `n`'s batch. -/
theorem scratch_eq (c : Dev nD) : ∀ (n : ℕ) (h : n < cfg0.N),
    (outsAt0 m c n h).2 = (kkAt m c (firstPt n h), qtAt m c (firstPt n h), vpAt m c (firstPt n h)) := by
  intro n
  induction n with
  | zero =>
    intro h
    rw [outsAt0_A m c ⟨0, h⟩ (Nat.zero_mod 4), kk_A, qt_A, vp_A]
    rfl
  | succ n ih =>
    intro h
    by_cases h0 : (n + 1) % 4 = 0
    · have e : firstPt (n + 1) h = ⟨n + 1, h⟩ := Fin.ext (by show 4 * ((n + 1) / 4) = n + 1; omega)
      rw [outsAt0_A m c ⟨n + 1, h⟩ h0, kk_A, qt_A, vp_A, e]
      rfl
    · have e : firstPt (n + 1) h = firstPt n (Nat.lt_of_succ_lt h) := Fin.ext (by show 4 * ((n + 1) / 4) = 4 * (n / 4); omega)
      rw [outsAt0_B m c ⟨n + 1, h⟩ h0, e]
      exact ih (Nat.lt_of_succ_lt h)

/-- After point `n` the output block is `blockOut` of the projections of `n`'s batch. -/
theorem out_eq (c : Dev nD) (n : ℕ) (h : n < cfg0.N) :
    (outsAt0 m c n h).1 = blockOut (grid0.coords ⟨n, h⟩ 1).val (grid0.coords ⟨n, h⟩ 1).isLt
      (kkAt m c (firstPt n h)) (qtAt m c (firstPt n h)) (vpAt m c (firstPt n h)) (iblk m c 7 ⟨n, h⟩) (iblk m c 8 ⟨n, h⟩) := by
  by_cases h0 : n % 4 = 0
  · have e : firstPt n h = ⟨n, h⟩ := Fin.ext (by show 4 * (n / 4) = n; omega)
    rw [outsAt0_A m c ⟨n, h⟩ h0, out_A, e]
    rfl
  · have e : firstPt n h = firstPt (n - 1) (by omega) := Fin.ext (by show 4 * (n / 4) = 4 * ((n - 1) / 4); omega)
    have hs := scratch_eq m c (n - 1) (by omega)
    rw [outsAt0_B m c ⟨n, h⟩ h0, out_B, e]
    show blockOut _ _ (outsAt0 m c (n - 1) _).2.1 (outsAt0 m c (n - 1) _).2.2.1 (outsAt0 m c (n - 1) _).2.2.2 _ _ = _
    rw [hs]

/-- The second grid coordinate of a point is its block within the batch. -/
theorem coords_one : ∀ t : Fin cfg0.N, (grid0.coords t 1).val = t.val % 4 :=
  (by decide +kernel : ∀ t : Fin grid0.N, (grid0.coords t 1).val = t.val % 4)

/-- The block of the inputs that a point is given: its batch. -/
theorem idx_x : ∀ t : Fin cfg0.N, win0_0.index t (0 : Fin 3) = t.val / 4 ∧ win0_0.index t (1 : Fin 3) = 0 ∧ win0_0.index t (2 : Fin 3) = 0 :=
  (by decide +kernel : ∀ t : Fin grid0.N, _)

/-- The input block of a point, as its batch of the argument. -/
theorem blk_x (c : Dev nD) (t : Fin cfg0.N) (p : Fin 4096) (k : Fin 512) (hb : t.val / 4 < 4) :
    iblk m c 0 t (ix3 (0 : Fin 1) p k) = m ((c : Thread nD τ).loc main_arg0)
      (ix5 (⟨t.val / 4, hb⟩ : Fin 4) (⟨p.val / 256, by omega⟩ : Fin 16) (⟨p.val / 16 % 16, by omega⟩ : Fin 16) (⟨p.val % 16, by omega⟩ : Fin 16) k) := by
  blk_ext! [iblk, V, idx_x t]

/-- The windows of the weights and the biases sit at block zero at every point. -/
theorem idx_w : ∀ t : Fin cfg0.N, (∀ a, win0_1.index t a = 0) ∧ (∀ a, win0_2.index t a = 0) ∧ (∀ a, win0_3.index t a = 0) ∧ (∀ a, win0_4.index t a = 0)
    ∧ (∀ a, win0_5.index t a = 0) ∧ (∀ a, win0_6.index t a = 0) ∧ (∀ a, win0_7.index t a = 0) ∧ (∀ a, win0_8.index t a = 0) :=
  (by decide +kernel : ∀ t : Fin grid0.N, _)

/-- The key weights are given whole, at every point. -/
theorem blk_kw (c : Dev nD) (t : Fin cfg0.N) (k : Fin 512) (d : Fin 128) :
    iblk m c 1 t (ix2 k d) = m ((c : Thread nD τ).loc main_arg1) (ix2 k d) := by
  have h := idx_w t; have h0 := h.1 0; have h1 := h.1 1
  blk_ext! [iblk, V, h0, h1]
/-- The query weights are given whole. -/
theorem blk_qw (c : Dev nD) (t : Fin cfg0.N) (k : Fin 512) (d : Fin 128) :
    iblk m c 3 t (ix2 k d) = m ((c : Thread nD τ).loc main_arg3) (ix2 k d) := by
  have h := (idx_w t).2.2; have h0 := h.1 0; have h1 := h.1 1
  blk_ext! [iblk, V, h0, h1]
/-- The value weights are given whole. -/
theorem blk_vw (c : Dev nD) (t : Fin cfg0.N) (k : Fin 512) (d : Fin 128) :
    iblk m c 5 t (ix2 k d) = m ((c : Thread nD τ).loc main_arg5) (ix2 k d) := by
  have h := (idx_w t).2.2.2.2; have h0 := h.1 0; have h1 := h.1 1
  blk_ext! [iblk, V, h0, h1]
/-- The restoring weights are given whole. -/
theorem blk_rw (c : Dev nD) (t : Fin cfg0.N) (d : Fin 128) (k : Fin 512) :
    iblk m c 7 t (ix2 d k) = m ((c : Thread nD τ).loc main_arg7) (ix2 d k) := by
  have h := (idx_w t).2.2.2.2.2.2; have h0 := h.1 0; have h1 := h.1 1
  blk_ext! [iblk, V, h0, h1]

/-- The key bias is given as one row, at every point. -/
theorem blk_kb (c : Dev nD) (t : Fin cfg0.N) (d : Fin 128) :
    iblk m c 2 t (ix2 (0 : Fin 1) d) = m ((c : Thread nD τ).loc main_arg2) (ix1 d) := by
  have h := (idx_w t).2; have h0 := h.1 0; have h1 := h.1 1
  blk_ext! [iblk, V, h0, h1]
/-- The query bias is given as one row. -/
theorem blk_qb (c : Dev nD) (t : Fin cfg0.N) (d : Fin 128) :
    iblk m c 4 t (ix2 (0 : Fin 1) d) = m ((c : Thread nD τ).loc main_arg4) (ix1 d) := by
  have h := (idx_w t).2.2.2; have h0 := h.1 0; have h1 := h.1 1
  blk_ext! [iblk, V, h0, h1]
/-- The value bias is given as one row. -/
theorem blk_vb (c : Dev nD) (t : Fin cfg0.N) (d : Fin 128) :
    iblk m c 6 t (ix2 (0 : Fin 1) d) = m ((c : Thread nD τ).loc main_arg6) (ix1 d) := by
  have h := (idx_w t).2.2.2.2.2; have h0 := h.1 0; have h1 := h.1 1
  blk_ext! [iblk, V, h0, h1]
/-- The restoring bias is given as one row. -/
theorem blk_rb (c : Dev nD) (t : Fin cfg0.N) (k : Fin 512) :
    iblk m c 8 t (ix2 (0 : Fin 1) k) = m ((c : Thread nD τ).loc main_arg8) (ix1 k) := by
  have h := (idx_w t).2.2.2.2.2.2.2; have h0 := h 0; have h1 := h 1
  blk_ext! [iblk, V, h0, h1]

/-- The result array, index by index: at row `n` of batch `b`, the output block of point `4 b + n / 1024`. -/
theorem G9_eq (c : Dev nD) (b : Fin 4) (n : Fin 4096) (k : Fin 512) (h : 4 * b.val + n.val / 1024 < cfg0.N) :
    Cert.KernelIdeal.Value.G9 m c (ix3 b n k)
      = (outsAt0 m c (4 * b.val + n.val / 1024) h).1 (ix3 (0 : Fin 1) (⟨n.val % 1024, Nat.mod_lt _ (by decide)⟩ : Fin 1024) k) := by
  have e : Cert.KernelIdeal.Value.pt9Of (ix3 b n k) = 4 * b.val + n.val / 1024 := by
    show 4 * (b.val / 1 - 0) + 1 * (n.val / 1024 - 0) + 1 * (k.val / 512 - 0) = _
    omega
  have el : Cert.KernelIdeal.Value.loc9Of (ix3 b n k) = ix3 (0 : Fin 1) (⟨n.val % 1024, Nat.mod_lt _ (by decide)⟩ : Fin 1024) k := by
    funext a
    match a with
    | ⟨0, _⟩ => exact Fin.ext (Nat.mod_one _)
    | ⟨1, _⟩ => rfl
    | ⟨2, _⟩ => exact Fin.ext (Nat.mod_eq_of_lt k.isLt)
  unfold Cert.KernelIdeal.Value.G9
  rw [dif_pos (by rw [e]; exact h), el, ← Cert.KernelIdeal.Value.outsAt0_sweep m c _ (by rw [e]; exact h)]
  have hg : ∀ (u v : ℕ) (hu : u < cfg0.N) (hv : v < cfg0.N), u = v → outsAt0 m c u hu = outsAt0 m c v hv := by
    intro u v hu hv huv; subst huv; rfl
  rw [hg _ _ _ h e]

end Cert.KernelIdeal.Block
-- ==== Proof.Proj.lean ====
/-
  THE PROJECTIONS, INDEX BY INDEX, over the extended reals.

  The body projects one batch with a single product against the three weight matrices side by side; the parts it cuts
  out are the three projections. Read through the windows they are those of the argument arrays.
-/
module

public import proofs.«01_k».proof.Proof.Points

@[expose] public section

set_option maxRecDepth 16384

noncomputable section

namespace Cert.KernelIdeal.Block

open Cert.KernelIdeal Cert.KernelIdeal.Gen Idealize.ShloMosaic Idealize.ShloMosaic.TcCoe Idealize.SL.Sem

/-- A row and feature of a projection of the batch `i` of an input. -/
def projAt (x : FVec Ideal S4x16x16x16x512 .f32) (w : FVec Ideal S512x128 .f32) (b : FVec Ideal S128 .f32) (i : Fin 4) (p : Fin 4096) (d : Fin 128) : EReal :=
  (∑ k : Fin 512, x (ix5 i (⟨p.val / 256, by omega⟩ : Fin 16) (⟨p.val / 16 % 16, by omega⟩ : Fin 16) (⟨p.val % 16, by omega⟩ : Fin 16) k) * w (ix2 k d)) + b (ix1 d)

section payloads

variable (kw qw vw : Vec Ideal S512x128 .f32) (kb qb vb : Vec Ideal S1x128 .f32) (x : Vec Ideal S1x4096x512 .f32) (p : Fin 4096) (d : Fin 128)

/-- The first part is the projection by the key weights, -/
theorem pay3_apply : k0_pay3 kw qw vw kb qb vb x (ix2 p d)
    = ((∑ k : Fin 512, x (ix3 (0 : Fin 1) p k) * kw (ix2 k d)) + kb (ix2 (0 : Fin 1) d) : EReal) := by
  pointwise [k0_pay3, k0_pay2]

/-- the second, transposed, by the query weights, -/
theorem pay4_apply : k0_pay4 kw qw vw kb qb vb x (ix2 d p)
    = ((∑ k : Fin 512, x (ix3 (0 : Fin 1) p k) * qw (ix2 k d)) + qb (ix2 (0 : Fin 1) d) : EReal) := by
  pointwise [k0_pay4, k0_pay2]

/-- the third by the value weights, in the first 128 columns, -/
theorem pay5_apply : k0_pay5 kw qw vw kb qb vb x (ix2 p (⟨d.val, by omega⟩ : Fin 256))
    = ((∑ k : Fin 512, x (ix3 (0 : Fin 1) p k) * vw (ix2 k d)) + vb (ix2 (0 : Fin 1) d) : EReal) := by
  have h1 : ¬256 + d.val < 128 := by omega
  have h2 : ¬256 + d.val - 128 < 128 := by omega
  have h3 : (⟨256 + d.val - 128 - 128, by omega⟩ : Fin 128) = d := Fin.ext (by show 256 + d.val - 128 - 128 = d.val; omega)
  pointwise [k0_pay5, k0_pay2]
  simp only [h1, h2, h3, d.isLt, dite_true, dite_false]

/-- and the last 128 columns beside it are ones. -/
theorem pay5_one : k0_pay5 kw qw vw kb qb vb x (ix2 p (⟨128 + d.val, by omega⟩ : Fin 256)) = (1 : EReal) := by
  pointwise [k0_pay5, k0_pay2]

end payloads

variable (m : (ℓ : Loc nD τ sig) → Buf (Elt Ideal) ℓ) (c : Dev nD) (t : Fin cfg0.N) (i : Fin 4) (hi : t.val / 4 = i.val) (p : Fin 4096) (d : Fin 128)

include hi in
/-- The input block of a point of batch `i`. -/
theorem blk_x' (k : Fin 512) : iblk m c 0 t (ix3 (0 : Fin 1) p k) = m ((c : Thread nD τ).loc main_arg0)
    (ix5 i (⟨p.val / 256, by omega⟩ : Fin 16) (⟨p.val / 16 % 16, by omega⟩ : Fin 16) (⟨p.val % 16, by omega⟩ : Fin 16) k) := by
  have hb : t.val / 4 < 4 := hi ▸ i.isLt
  have e : (⟨t.val / 4, hb⟩ : Fin 4) = i := Fin.ext hi
  rw [blk_x m c t p k hb, e]

include hi in
/-- The keys of batch `i`, -/
theorem kkAt_apply : kkAt m c t (ix2 p d)
    = projAt (m ((c : Thread nD τ).loc main_arg0)) (m ((c : Thread nD τ).loc main_arg1)) (m ((c : Thread nD τ).loc main_arg2)) i p d := by
  rw [kkAt, pay3_apply, blk_kb, projAt]
  simp only [blk_x' m c t i hi, blk_kw]

include hi in
/-- its queries, transposed, -/
theorem qtAt_apply : qtAt m c t (ix2 d p)
    = projAt (m ((c : Thread nD τ).loc main_arg0)) (m ((c : Thread nD τ).loc main_arg3)) (m ((c : Thread nD τ).loc main_arg4)) i p d := by
  rw [qtAt, pay4_apply, blk_qb, projAt]
  simp only [blk_x' m c t i hi, blk_qw]

include hi in
/-- and its values. -/
theorem vpAt_apply : vpAt m c t (ix2 p (⟨d.val, by omega⟩ : Fin 256))
    = projAt (m ((c : Thread nD τ).loc main_arg0)) (m ((c : Thread nD τ).loc main_arg5)) (m ((c : Thread nD τ).loc main_arg6)) i p d := by
  rw [vpAt, pay5_apply, blk_vb, projAt]
  simp only [blk_x' m c t i hi, blk_vw]

end Cert.KernelIdeal.Block
-- ==== Proof.Soft.lean ====
/-
  THE ARITHMETIC OF ONE SOFTMAX ROW over the extended reals.

  The scores of a row are finite; the values may be anything. A row is walked chunk by chunk with a running maximum and
  a running accumulator that is rescaled whenever the maximum moves (`runMax`, `runAcc`). After at least one chunk the
  accumulator is the weighted sum of the values seen so far, weighted by powers of two of the scores less a finite
  number (`run_eq`), and the quotient of two such accumulators is the softmax average (`quotient_eq`).
-/
module

public import Idealize.ShloMosaic.Lib.Pointwise
public import Idealize.ShloMosaic.Lib.IdealHost

@[expose] public section

noncomputable section

namespace Cert.Soft

open Idealize.ShloMosaic

/-- A finite extended real. -/
def IsReal (a : EReal) : Prop := ∃ r : ℝ, a = (r : EReal)

/-- The sum of two finite numbers is finite. -/
theorem real_add {a b : EReal} : IsReal a → IsReal b → IsReal (a + b) := by
  rintro ⟨r, rfl⟩ ⟨s, rfl⟩; exact ⟨r + s, (EReal.coe_add r s).symm⟩

/-- The product of two finite numbers is finite. -/
theorem real_mul {a b : EReal} : IsReal a → IsReal b → IsReal (a * b) := by
  rintro ⟨r, rfl⟩ ⟨s, rfl⟩; exact ⟨r * s, (EReal.coe_mul r s).symm⟩

/-- A sum of finite numbers is the sum of the reals. -/
theorem coe_sum {ι : Type} (S : Finset ι) (f : ι → ℝ) : (∑ i ∈ S, (f i : EReal)) = ((∑ i ∈ S, f i : ℝ) : EReal) := by
  induction S using Finset.cons_induction with
  | empty => simp
  | cons a S ha ih => rw [Finset.sum_cons, Finset.sum_cons, ih, EReal.coe_add]

/-- A sum of finite numbers is finite. -/
theorem real_sum {ι : Type} (S : Finset ι) (f : ι → EReal) (hf : ∀ i, IsReal (f i)) : IsReal (∑ i ∈ S, f i) := by
  choose g hg using hf
  exact ⟨∑ i ∈ S, g i, by rw [← coe_sum]; exact Finset.sum_congr rfl fun i _ => hg i⟩

/-- The larger of minus infinity or a finite number, and a finite number, is finite. -/
theorem real_max {a b : EReal} (ha : a = ⊥ ∨ IsReal a) : IsReal b → IsReal (max a b) := by
  rintro ⟨s, rfl⟩
  rcases ha with rfl | ⟨r, rfl⟩
  · exact ⟨s, max_bot_left _⟩
  · exact ⟨max r s, by rw [EReal.coe_strictMono.monotone.map_max]⟩

/-- The maximum of a nonempty family of finite numbers is finite. -/
theorem real_fold_max {n : ℕ} {b : EReal} (f : Fin n → EReal) (hb : b = ⊥) (hn : 0 < n) (hf : ∀ i, IsReal (f i)) : IsReal (Finset.univ.fold max b f) := by
  subst hb
  have key : ∀ S : Finset (Fin n), (S = ∅ ∧ S.fold max ⊥ f = ⊥) ∨ IsReal (S.fold max ⊥ f) := by
    intro S
    induction S using Finset.cons_induction with
    | empty => exact Or.inl ⟨rfl, Finset.fold_empty⟩
    | cons a S ha ih =>
      right
      rw [Finset.fold_cons, max_comm]
      exact real_max (ih.imp (fun h => h.2) id) (hf a)
  rcases key Finset.univ with ⟨h, -⟩ | h
  · exact absurd (h ▸ Finset.mem_univ (⟨0, hn⟩ : Fin n)) (Finset.notMem_empty _)
  · exact h

/-- The printed 32-bit word for minus infinity is minus infinity. -/
theorem negInf_f32 : Ideal.ofBits .f32 0xFF800000#32 = ⊥ := by simp [Ideal.ofBits, Ideal.ieee]

/-- So is the 16-bit one. -/
theorem negInf_bf16 : Ideal.ofBits .bf16 0xFF80#16 = ⊥ := by simp [Ideal.ofBits, Ideal.ieee]

/-- The word the reference's scale is the square root of is the number 131072. -/
theorem scale_f32 : Ideal.ofBits .f32 0x48000000#32 = ((131072 : ℝ) : EReal) := by
  simp [Ideal.ofBits, Ideal.ieee, -EReal.coe_mul]
  norm_num

/-- A nonnegative finite factor distributes over any sum. -/
theorem sum_mul_coe {ι : Type} (S : Finset ι) (f : ι → EReal) (c : ℝ) (hc : 0 ≤ c) : (∑ i ∈ S, f i) * (c : EReal) = ∑ i ∈ S, f i * (c : EReal) := by
  induction S using Finset.cons_induction with
  | empty => simp
  | cons a S ha ih =>
    rw [Finset.sum_cons, Finset.sum_cons, EReal.right_distrib_of_nonneg_of_ne_top (EReal.coe_nonneg.mpr hc) (EReal.coe_ne_top c), ih]

/-- The factor that turns a base-two exponent into the softmax's scaled natural one. -/
def c2 : ℝ := (Real.log 2)⁻¹ * (Real.sqrt 131072)⁻¹

/-- The weight of a score `s` below the number `M`. -/
def wt (s M : ℝ) : ℝ := Real.exp ((s - M) * (Real.sqrt 131072)⁻¹)

/-- A weight is positive. -/
theorem wt_pos (s M : ℝ) : 0 < wt s M := Real.exp_pos _

/-- Moving the reference number rescales a weight. -/
theorem wt_mul (s M M' : ℝ) : wt s M * wt M M' = wt s M' := by
  unfold wt
  rw [← Real.exp_add]
  congr 1
  ring

/-- The power of two the body takes is the weight. -/
theorem exp2_eq (s M : ℝ) : Ideal.exp2 (((s : EReal) - (M : EReal)) * (c2 : EReal)) = (wt s M : EReal) := by
  rw [← EReal.coe_sub, ← EReal.coe_mul, Ideal.exp2_coe, EReal.coe_eq_coe_iff]
  show (2 : ℝ) ^ ((s - M) * c2) = wt s M
  have h : Real.log 2 ≠ 0 := (Real.log_pos one_lt_two).ne'
  rw [Real.rpow_def_of_pos two_pos]
  unfold wt c2
  congr 1
  field_simp

/-- A finite score divided by the scale is finite. -/
theorem div_real (s : ℝ) : IsReal (Ideal.div (s : EReal) (Ideal.sqrt (Ideal.ofBits .f32 0x48000000#32))) := by
  have h : Real.sqrt 131072 ≠ 0 := (Real.sqrt_pos.mpr (by norm_num)).ne'
  rw [scale_f32, Ideal.sqrt_coe, if_neg (by norm_num), Ideal.div_coe h, ← EReal.coe_mul]
  exact ⟨_, rfl⟩

/-- The exponential the reference takes, of a score divided by the scale, less a finite number. -/
theorem exp_eq (s μ : ℝ) : Ideal.exp (Ideal.div (s : EReal) (Ideal.sqrt (Ideal.ofBits .f32 0x48000000#32)) - (μ : EReal))
    = (wt s (μ * Real.sqrt 131072) : EReal) := by
  have h : Real.sqrt 131072 ≠ 0 := (Real.sqrt_pos.mpr (by norm_num)).ne'
  rw [scale_f32, Ideal.sqrt_coe, if_neg (by norm_num), Ideal.div_coe h, ← EReal.coe_mul, ← EReal.coe_sub, Ideal.exp_coe, EReal.coe_eq_coe_iff]
  unfold wt
  congr 1
  field_simp

/-- The running maximum of a row after `n` chunks of 512 scores. -/
def runMax (s : ℕ → EReal) : ℕ → EReal
  | 0 => ⊥
  | n + 1 => max (runMax s n) (Finset.univ.fold max ⊥ fun x : Fin 512 => s (512 * n + x.val))

/-- The running accumulator of a row after `n` chunks. -/
def runAcc (s v : ℕ → EReal) : ℕ → EReal
  | 0 => 0
  | n + 1 => runAcc s v n * Ideal.exp2 ((runMax s n - runMax s (n + 1)) * (c2 : EReal))
      + ∑ x : Fin 512, Ideal.exp2 ((s (512 * n + x.val) - runMax s (n + 1)) * (c2 : EReal)) * v (512 * n + x.val)

/-- After at least one chunk the running maximum is a finite number `M`, and every accumulator is the sum of the values
    so far weighted against `M`. -/
theorem run_eq (s : ℕ → ℝ) (n : ℕ) : ∃ M : ℝ, runMax (fun j => (s j : EReal)) (n + 1) = (M : EReal)
    ∧ ∀ v : ℕ → EReal, runAcc (fun j => (s j : EReal)) v (n + 1) = ∑ j ∈ Finset.range (512 * (n + 1)), (wt (s j) M : EReal) * v j := by
  have chunk : ∀ n, IsReal (Finset.univ.fold max ⊥ fun x : Fin 512 => (s (512 * n + x.val) : EReal)) :=
    fun n => real_fold_max _ rfl (by decide) fun x => ⟨_, rfl⟩
  induction n with
  | zero =>
    obtain ⟨M, hM⟩ := real_max (Or.inl (rfl : runMax (fun j => (s j : EReal)) 0 = ⊥)) (chunk 0)
    have hM' : runMax (fun j => (s j : EReal)) (0 + 1) = (M : EReal) := hM
    refine ⟨M, hM', fun v => ?_⟩
    unfold runAcc
    rw [hM', Finset.sum_range]
    show 0 * _ + _ = _
    rw [zero_mul, zero_add]
    refine Finset.sum_congr rfl fun x _ => ?_
    rw [exp2_eq]
    simp
  | succ n ih =>
    obtain ⟨M, hM, hacc⟩ := ih
    obtain ⟨M', hM'⟩ := real_max (Or.inr ⟨M, hM⟩) (chunk (n + 1))
    have hM'' : runMax (fun j => (s j : EReal)) (n + 1 + 1) = (M' : EReal) := hM'
    refine ⟨M', hM'', fun v => ?_⟩
    rw [runAcc, hM'', hM, hacc, exp2_eq, sum_mul_coe _ _ _ (wt_pos _ _).le, show 512 * (n + 1 + 1) = 512 * (n + 1) + 512 from by ring,
      Finset.sum_range_add, Finset.sum_range (fun x => (wt (s (512 * (n + 1) + x)) M' : EReal) * v (512 * (n + 1) + x))]
    refine congrArg₂ (· + ·) (Finset.sum_congr rfl fun j _ => ?_) (Finset.sum_congr rfl fun x _ => ?_)
    · rw [mul_right_comm, ← EReal.coe_mul, wt_mul]
    · rw [exp2_eq]

/-- The quotient of two weighted sums, of the values and of ones, is the average of the values with the softmax weights,
    whatever finite numbers the weights are taken against. -/
theorem quotient_eq {n : ℕ} (hn : 0 < n) (s : Fin n → ℝ) (v : Fin n → EReal) (M M' : ℝ) :
    Ideal.div (∑ j, (wt (s j) M : EReal) * v j) (∑ j, (wt (s j) M : EReal) * 1)
      = ∑ j, Ideal.div (wt (s j) M' : EReal) (∑ j', (wt (s j') M' : EReal)) * v j := by
  have hne : (Finset.univ : Finset (Fin n)).Nonempty := ⟨⟨0, hn⟩, Finset.mem_univ _⟩
  have pos : ∀ K : ℝ, 0 < ∑ j, wt (s j) K := fun K => Finset.sum_pos (fun j _ => wt_pos _ _) hne
  have hL : (∑ j, wt (s j) M') = (∑ j, wt (s j) M) * wt M M' := by
    rw [Finset.sum_mul]
    exact Finset.sum_congr rfl fun j _ => (wt_mul _ _ _).symm
  simp only [mul_one]
  rw [coe_sum, coe_sum, Ideal.div_coe (pos M).ne', sum_mul_coe _ _ _ (one_div_pos.mpr (pos M)).le]
  refine Finset.sum_congr rfl fun j _ => ?_
  rw [Ideal.div_coe (pos M').ne', mul_right_comm, ← EReal.coe_mul, ← EReal.coe_mul]
  congr 2
  rw [hL, ← wt_mul (s j) M M']
  have h1 := (pos M).ne'
  have h2 := (wt_pos M M').ne'
  field_simp

end Cert.Soft
-- ==== Proof.Ref.lean ====
/-
  WHAT THE REFERENCE COMPUTES, INDEX BY INDEX.

  The reference's result is the composition of six whole-array steps: three projections, the scaled scores, their
  exponentials below the row maximum, the weighted values, and the restoring projection. Each is read at an index.
-/
module

public import proofs.«01_k».proof.Proof.Gen.ReferenceIdeal.Run
public import proofs.«01_k».proof.Proof.Soft
public import Idealize.ShloMosaic.Lib.Pointwise

@[expose] public section

set_option maxRecDepth 16384

noncomputable section

namespace Cert.ReferenceIdeal.Read

open Cert.ReferenceIdeal Cert.ReferenceIdeal.Gen Cert.ReferenceIdeal.Value Cert.Soft Idealize.ShloMosaic Idealize.ShloMosaic.TcCoe Idealize.SL.Sem

/-- A projection of the input, flattened to 4096 rows per batch. -/
def proj (x : FVec Ideal S4x16x16x16x512 .f32) (w : FVec Ideal S512x128 .f32) (b : FVec Ideal S128 .f32) : FVec Ideal S4x4096x128 .f32 :=
  shapeCast S4x4096x128 (addf (Host.dotGeneral dot_S4x16x16x16x512_S512x128_S4x16x16x16x128_4_0_0123_1_n_n none x w)
    (broadcastInDim S4x16x16x16x128 ![0, 1, 2, 3, 4] bcast_S1x1x1x1x128_S4x16x16x16x128_0_1_2_3_4 (broadcastInDim S1x1x1x1x128 ![4] bcast_S128_S1x1x1x1x128_4 b)))
    shapeCasts_S4x16x16x16x128_S4x4096x128

/-- The scaled scores of every key against every query of its batch. -/
def scaled (k q : FVec Ideal S4x4096x128 .f32) : FVec Ideal S4x4096x4096 .f32 :=
  Host.divf (Host.dotGeneral dot_S4x4096x128_S4x4096x128_S4x4096x4096_2_2_1_1_0_0 none k q)
    (broadcastInDim S4x4096x4096 ![] bcast_S_S4x4096x4096 (Host.sqrt (constant S_ .f32 0x48000000#32)))

/-- The largest score of each row. -/
def rowMax (s : FVec Ideal S4x4096x4096 .f32) : FVec Ideal S4x4096 .f32 :=
  maximumf (broadcastInDim S4x4096 ![] bcast_S_S4x4096 (constant S_ .f32 0xFF800000#32))
    (Host.reduce FloatOps.maximumf s (constant S_ .f32 0xFF800000#32) reducesTo_S4x4096x4096_S4x4096_d2 h_S_)

/-- The exponentials of the scores less their row maximum. -/
def expo (s : FVec Ideal S4x4096x4096 .f32) (mx : FVec Ideal S4x4096 .f32) : FVec Ideal S4x4096x4096 .f32 :=
  Host.exp (subf s (broadcastInDim S4x4096x4096 ![0, 1, 2] bcast_S4x4096x1_S4x4096x4096_0_1_2 (broadcastInDim S4x4096x1 ![0, 1] bcast_S4x4096_S4x4096x1_0_1 mx)))

/-- The values averaged with the normalised exponentials. -/
def attend (e : FVec Ideal S4x4096x4096 .f32) (v : FVec Ideal S4x4096x128 .f32) : FVec Ideal S4x4096x128 .f32 :=
  Host.dotGeneral dot_S4x4096x4096_S4x4096x128_S4x4096x128_2_1_1_2_0_0 none
    (Host.divf e (broadcastInDim S4x4096x4096 ![0, 1, 2] bcast_S4x4096x1_S4x4096x4096_0_1_2 (broadcastInDim S4x4096x1 ![0, 1] bcast_S4x4096_S4x4096x1_0_1
      (Host.reduceAdd e (constant S_ .f32 0x00000000#32) reducesTo_S4x4096x4096_S4x4096_d2 h_S_)))) v

/-- The restoring projection, its rows taken through the spatial shape and back. -/
def restore (o : FVec Ideal S4x4096x128 .f32) (w : FVec Ideal S128x512 .f32) (b : FVec Ideal S512 .f32) : FVec Ideal S4x4096x512 .f32 :=
  shapeCast S4x4096x512 (addf (Host.dotGeneral dot_S4x16x16x16x128_S128x512_S4x16x16x16x512_4_0_0123_1_n_n none (shapeCast S4x16x16x16x128 o shapeCasts_S4x4096x128_S4x16x16x16x128) w)
    (broadcastInDim S4x16x16x16x512 ![0, 1, 2, 3, 4] bcast_S1x1x1x1x512_S4x16x16x16x512_0_1_2_3_4 (broadcastInDim S1x1x1x1x512 ![4] bcast_S512_S1x1x1x1x512_4 b)))
    shapeCasts_S4x16x16x16x512_S4x4096x512

/-- The reference's result is the composition of the steps. -/
theorem result_eq (m : (ℓ : Loc nD τ sig) → Buf (Elt Ideal) ℓ) (c : Dev nD) :
    res_main_v36 m c =
      let s := scaled (proj (m ((c : Thread nD τ).loc main_arg0)) (m ((c : Thread nD τ).loc main_arg1)) (m ((c : Thread nD τ).loc main_arg2)))
        (proj (m ((c : Thread nD τ).loc main_arg0)) (m ((c : Thread nD τ).loc main_arg3)) (m ((c : Thread nD τ).loc main_arg4)))
      restore (attend (expo s (rowMax s)) (proj (m ((c : Thread nD τ).loc main_arg0)) (m ((c : Thread nD τ).loc main_arg5)) (m ((c : Thread nD τ).loc main_arg6))))
        (m ((c : Thread nD τ).loc main_arg7)) (m ((c : Thread nD τ).loc main_arg8)) := rfl

/-- A projection at one row and feature. -/
theorem proj_apply (x : FVec Ideal S4x16x16x16x512 .f32) (w : FVec Ideal S512x128 .f32) (b : FVec Ideal S128 .f32) (i : Fin 4) (p : Fin 4096) (d : Fin 128) :
    proj x w b (ix3 i p d) = ((∑ k : Fin 512, x (ix5 i (⟨p.val / 256, by omega⟩ : Fin 16) (⟨p.val / 16 % 16, by omega⟩ : Fin 16) (⟨p.val % 16, by omega⟩ : Fin 16) k)
      * w (ix2 k d)) + b (ix1 d) : EReal) := by
  pointwise [proj]

/-- A scaled score. -/
theorem scaled_apply (k q : FVec Ideal S4x4096x128 .f32) (i : Fin 4) (p j : Fin 4096) :
    scaled k q (ix3 i p j) = Ideal.div (∑ d : Fin 128, k (ix3 i p d) * q (ix3 i j d) : EReal) (Ideal.sqrt (Ideal.ofBits .f32 0x48000000#32)) := by
  pointwise [scaled]

/-- The larger of two vectors at an index. -/
theorem maximumf_at (a b : FVec Ideal S4x4096 .f32) (j : S4x4096.Idx) : maximumf a b j = (max (a j) (b j) : EReal) := rfl

/-- The maximum of a row of finite scores is finite. -/
theorem rowMax_real (s : FVec Ideal S4x4096x4096 .f32) (hs : ∀ j, IsReal (s j)) (j : S4x4096.Idx) : IsReal (rowMax s j) := by
  rw [rowMax, maximumf_at, Host.reduce_eq_fold_single FloatOps.maximumf s _ reducesTo_S4x4096x4096_S4x4096_d2 (by decide) h_S_ j]
  exact real_max (Or.inl negInf_f32) (real_fold_max _ negInf_f32 (by decide) fun k => hs _)

/-- An exponential. -/
theorem expo_apply (s : FVec Ideal S4x4096x4096 .f32) (mx : FVec Ideal S4x4096 .f32) (i : Fin 4) (p j : Fin 4096) :
    expo s mx (ix3 i p j) = Ideal.exp (s (ix3 i p j) - mx (ix2 i p) : EReal) := by
  pointwise [expo]

/-- A weighted average of the values. -/
theorem attend_apply (e : FVec Ideal S4x4096x4096 .f32) (v : FVec Ideal S4x4096x128 .f32) (i : Fin 4) (p : Fin 4096) (d : Fin 128) :
    attend e v (ix3 i p d) = (∑ j : Fin 4096, Ideal.div (e (ix3 i p j)) (∑ j' : Fin 4096, (e (ix3 i p j') : EReal)) * v (ix3 i j d) : EReal) := by
  pointwise [attend]

/-- The restored result. -/
theorem restore_apply (o : FVec Ideal S4x4096x128 .f32) (w : FVec Ideal S128x512 .f32) (b : FVec Ideal S512 .f32) (i : Fin 4) (p : Fin 4096) (k : Fin 512) :
    restore o w b (ix3 i p k) = ((∑ d : Fin 128, o (ix3 i p d) * w (ix2 d k)) + b (ix1 k) : EReal) := by
  pointwise [restore]

end Cert.ReferenceIdeal.Read
-- ==== Proof.Sweep.lean ====
/-
  ONE OUTPUT BLOCK, INDEX BY INDEX, over the extended reals.

  Row by row the body's sweep over the chunks is the running softmax of `Soft`: the running maximum of the row's
  scores, and one running accumulator per column of the values. When the row's scores are finite, dividing by the
  column of ones gives the softmax average of the values (`blockOut_apply`).
-/
module

public import proofs.«01_k».proof.Proof.Block
public import proofs.«01_k».proof.Proof.Soft

@[expose] public section

set_option maxRecDepth 16384

noncomputable section

namespace Cert.KernelIdeal.Block

open Cert.KernelIdeal Cert.KernelIdeal.Gen Cert.Soft Idealize.ShloMosaic Idealize.ShloMosaic.TcCoe Idealize.SL.Sem

/-- The scale's 32-bit word stands for the named constant. -/
theorem named_f32 : (Named.named κ "c2" 0x3B8293EE#32 : Ideal .f32) = (c2 : EReal) := rfl

/-- So does its 16-bit word. -/
theorem named_bf16 : (Named.named κ "c2" 0x3B83#16 : Ideal .bf16) = (c2 : EReal) := rfl

/-- The vector unit's power of two is the extended reals'. -/
theorem exp2_at {φ : FTy} (x : EReal) : FloatOps.exp2 (F := Ideal) (φ := φ) x = Ideal.exp2 x := rfl

/-- A score: the product of a key and a query. -/
theorem scores_apply (kh : Vec Ideal S1024x128 .bf16) (qc : Vec Ideal S128x512 .bf16) (r : Fin 1024) (x : Fin 512) :
    scores kh qc (ix2 r x) = (∑ d : Fin 128, kh (ix2 r d) * qc (ix2 d x) : EReal) := by
  pointwise [scores]

/-- The new maximum of a row. -/
theorem newMax_apply (s : FVec Ideal S1024x512 .bf16) (mx : FVec Ideal S1024x1 .bf16) (r : Fin 1024) :
    newMax s mx (ix2 r (0 : Fin 1)) = (max (mx (ix2 r (0 : Fin 1))) (Finset.univ.fold max ⊥ fun x : Fin 512 => (s (ix2 r x) : EReal)) : EReal) := by
  rw [← negInf_bf16]
  pointwise [newMax]

/-- The new accumulator of a row and a column. -/
theorem newAcc_apply (s : FVec Ideal S1024x512 .bf16) (mx mn : FVec Ideal S1024x1 .bf16) (vc : Vec Ideal S512x256 .bf16) (acc : FVec Ideal S1024x256 .f32)
    (r : Fin 1024) (d : Fin 256) :
    newAcc s mx mn vc acc (ix2 r d) = (acc (ix2 r d) * Ideal.exp2 ((mx (ix2 r (0 : Fin 1)) - mn (ix2 r (0 : Fin 1)) : EReal) * (c2 : EReal))
      + ∑ x : Fin 512, Ideal.exp2 ((s (ix2 r x) - mn (ix2 r (0 : Fin 1)) : EReal) * (c2 : EReal)) * vc (ix2 x d) : EReal) := by
  pointwise [newAcc]
  simp only [exp2_at, named_f32, named_bf16]

/-- The finished block at a row and a channel. -/
theorem finish_apply (acc : FVec Ideal S1024x256 .f32) (rw : Vec Ideal S128x512 .f32) (rb : Vec Ideal S1x512 .f32) (r : Fin 1024) (k : Fin 512) :
    finish acc rw rb (ix3 (0 : Fin 1) r k) = ((∑ d : Fin 128, Ideal.div (acc (ix2 r (⟨d.val, by omega⟩ : Fin 256))) (acc (ix2 r (⟨128 + d.val, by omega⟩ : Fin 256)))
      * rw (ix2 d k)) + rb (ix2 (0 : Fin 1) k) : EReal) := by
  pointwise [finish]

/-- The scores of one row against all the queries, numbered by the naturals. -/
def rowScore (kh : Vec Ideal S1024x128 .bf16) (qt : Vec Ideal S128x4096 .bf16) (r : Fin 1024) (j : ℕ) : EReal :=
  if h : j < 4096 then ∑ d : Fin 128, (kh (ix2 r d) * qt (ix2 d (⟨j, h⟩ : Fin 4096)) : EReal) else 0

/-- One column of the values, numbered by the naturals. -/
def colValue (vp : Vec Ideal S4096x256 .bf16) (d : Fin 256) (j : ℕ) : EReal := if h : j < 4096 then vp (ix2 (⟨j, h⟩ : Fin 4096) d) else 0

/-- A row of the sweep is the running softmax of the row's scores and of each column of the values. -/
theorem sweep_apply (kh : Vec Ideal S1024x128 .bf16) (qt : Vec Ideal S128x4096 .bf16) (vp : Vec Ideal S4096x256 .bf16) (r : Fin 1024) :
    ∀ (n : ℕ) (h : 512 * n ≤ 4096), (sweep kh qt vp n h).1 (ix2 r (0 : Fin 1)) = runMax (rowScore kh qt r) n
      ∧ ∀ d : Fin 256, (sweep kh qt vp n h).2 (ix2 r d) = runAcc (rowScore kh qt r) (colValue vp d) n := by
  intro n
  induction n with
  | zero =>
    intro h
    exact ⟨negInf_bf16, fun d => Ideal.ofBits_zero_f32⟩
  | succ n ih =>
    intro h
    obtain ⟨h1, h2⟩ := ih (by omega)
    have hs : ∀ x : Fin 512, scores kh (qChunk qt (512 * n) (by omega)) (ix2 r x) = rowScore kh qt r (512 * n + x.val) := by
      intro x
      rw [scores_apply, rowScore, dif_pos (by omega)]
      rfl
    have hv : ∀ (x : Fin 512) (d : Fin 256), vChunk vp (512 * n) (by omega) (ix2 x d) = colValue vp d (512 * n + x.val) := by
      intro x d
      rw [colValue, dif_pos (by omega)]
      rfl
    have hm : (sweep kh qt vp (n + 1) h).1 (ix2 r (0 : Fin 1)) = runMax (rowScore kh qt r) (n + 1) := by
      show newMax _ _ _ = _
      rw [newMax_apply, h1, runMax]
      simp only [hs]
    refine ⟨hm, fun d => ?_⟩
    show newAcc _ _ (newMax _ _) _ _ _ = _
    have hm' : newMax (scores kh (qChunk qt (512 * n) (by omega))) (sweep kh qt vp n (by omega)).1 (ix2 r (0 : Fin 1)) = runMax (rowScore kh qt r) (n + 1) := hm
    rw [newAcc_apply, hm', h1, h2, runAcc]
    simp only [hs, hv]

/-- The output block at row `r` and channel `k`, when the row's scores are the finite numbers `s` and the last 128 columns
    of the values are ones: the softmax average of the values, restored. The weights may be taken against any finite number. -/
theorem blockOut_apply (b : ℕ) (hb : b < 4) (kk : Vec Ideal S4096x128 .bf16) (qt : Vec Ideal S128x4096 .bf16) (vp : Vec Ideal S4096x256 .bf16)
    (rw : Vec Ideal S128x512 .f32) (rb : Vec Ideal S1x512 .f32) (r : Fin 1024) (k : Fin 512) (s : Fin 4096 → ℝ) (M' : ℝ)
    (hs : ∀ j, (∑ d : Fin 128, (kk (ix2 (⟨1024 * b + r.val, by omega⟩ : Fin 4096) d) * qt (ix2 d j) : EReal)) = (s j : EReal))
    (h1 : ∀ (j : Fin 4096) (d : Fin 128), vp (ix2 j (⟨128 + d.val, by omega⟩ : Fin 256)) = (1 : EReal)) :
    blockOut b hb kk qt vp rw rb (ix3 (0 : Fin 1) r k)
      = ((∑ d : Fin 128, (∑ j, Ideal.div (wt (s j) M' : EReal) (∑ j', (wt (s j') M' : EReal)) * vp (ix2 j (⟨d.val, by omega⟩ : Fin 256)))
        * rw (ix2 d k)) + rb (ix2 (0 : Fin 1) k) : EReal) := by
  let s' : ℕ → ℝ := fun j => if h : j < 4096 then s ⟨j, h⟩ else 0
  have hs' : rowScore (kRows kk b hb) qt r = fun j => (s' j : EReal) := by
    funext j
    unfold rowScore
    by_cases h : j < 4096
    · rw [dif_pos h, show s' j = s ⟨j, h⟩ from dif_pos h, ← hs]
      rfl
    · rw [dif_neg h, show s' j = 0 from dif_neg h, EReal.coe_zero]
  obtain ⟨M, -, hM⟩ := run_eq s' 7
  have acc : ∀ d : Fin 256, (sweep (kRows kk b hb) qt vp 8 (by decide)).2 (ix2 r d) = ∑ j : Fin 4096, (wt (s j) M : EReal) * vp (ix2 j d) := by
    intro d
    rw [(sweep_apply (kRows kk b hb) qt vp r 8 (by decide)).2 d, hs', hM, Finset.sum_range]
    refine Finset.sum_congr rfl fun j _ => ?_
    rw [show s' j.val = s j from dif_pos j.isLt, show colValue vp d j.val = vp (ix2 j d) from dif_pos j.isLt]
  rw [blockOut, finish_apply]
  refine congrArg₂ (· + ·) (Finset.sum_congr rfl fun d _ => congrArg (· * _) ?_) rfl
  rw [acc, acc]
  simp only [h1]
  exact quotient_eq (by decide) s _ M M'

end Cert.KernelIdeal.Block
-- ==== Proof.Equation.lean ====
/-
  THE EQUATION: the array the kernel writes is the array the reference returns.

  On a batch's finite scores the kernel's row is the average of the projected values with the normalised weights
  relative to any level; the reference's exponentials are the weights relative to its row maximum.
-/
module

public import proofs.«01_k».proof.Proof.Proj
public import proofs.«01_k».proof.Proof.Ref
public import proofs.«01_k».proof.Proof.Sweep
public import Idealize.ShloMosaic.Lib.ValueIdx

@[expose] public section

set_option maxRecDepth 16384

noncomputable section

namespace Cert.KernelIdeal.Block

open Cert.KernelIdeal Cert.KernelIdeal.Gen Cert.Soft Idealize.ShloMosaic Idealize.ShloMosaic.TcCoe Idealize.SL.Sem
open Cert.ReferenceIdeal.Read (proj scaled rowMax expo attend restore)

/-- The reference's mathematics, on the nine arrays. -/
def plain (x : FVec Ideal S4x16x16x16x512 .f32) (kw : FVec Ideal S512x128 .f32) (kb : FVec Ideal S128 .f32) (qw : FVec Ideal S512x128 .f32)
    (qb : FVec Ideal S128 .f32) (vw : FVec Ideal S512x128 .f32) (vb : FVec Ideal S128 .f32) (rw : FVec Ideal S128x512 .f32) (rb : FVec Ideal S512 .f32) :
    FVec Ideal S4x4096x512 .f32 :=
  restore (attend (expo (scaled (proj x kw kb) (proj x qw qb)) (rowMax (scaled (proj x kw kb) (proj x qw qb)))) (proj x vw vb)) rw rb

/-- A projection of finite arrays is finite. -/
theorem projAt_real (x : FVec Ideal S4x16x16x16x512 .f32) (w : FVec Ideal S512x128 .f32) (b : FVec Ideal S128 .f32) (hx : ∀ i, IsReal (x i))
    (hw : ∀ i, IsReal (w i)) (hb : ∀ i, IsReal (b i)) (i : Fin 4) (p : Fin 4096) (d : Fin 128) : IsReal (projAt x w b i p d) :=
  real_add (real_sum _ _ fun _ => real_mul (hx _) (hw _)) (hb _)

/-- The reference's result at an index, when row `p`'s scores against the batch are the real numbers `s`: the average
    with the weights relative to some level. -/
theorem plain_apply (x : FVec Ideal S4x16x16x16x512 .f32) (kw : FVec Ideal S512x128 .f32) (kb : FVec Ideal S128 .f32) (qw : FVec Ideal S512x128 .f32)
    (qb : FVec Ideal S128 .f32) (vw : FVec Ideal S512x128 .f32) (vb : FVec Ideal S128 .f32) (rw : FVec Ideal S128x512 .f32) (rb : FVec Ideal S512 .f32)
    (s : Fin 4 → Fin 4096 → Fin 4096 → ℝ) (hs : ∀ i p j, (∑ d : Fin 128, (projAt x kw kb i p d * projAt x qw qb i j d : EReal)) = (s i p j : EReal))
    (i : Fin 4) (p : Fin 4096) : ∃ M : ℝ, ∀ k : Fin 512, plain x kw kb qw qb vw vb rw rb (ix3 i p k)
      = ((∑ d : Fin 128, (∑ j, Ideal.div (wt (s i p j) M : EReal) (∑ j', (wt (s i p j') M : EReal)) * projAt x vw vb i j d) * rw (ix2 d k)) + rb (ix1 k) : EReal) := by
  have hsc : ∀ i p j, scaled (proj x kw kb) (proj x qw qb) (ix3 i p j) = Ideal.div (s i p j : EReal) (Ideal.sqrt (Ideal.ofBits .f32 0x48000000#32)) := by
    intro i p j
    rw [Cert.ReferenceIdeal.Read.scaled_apply, ← hs]
    simp only [Cert.ReferenceIdeal.Read.proj_apply]
    rfl
  have hr : ∀ i p j, IsReal (scaled (proj x kw kb) (proj x qw qb) (ix3 i p j)) := fun i p j => hsc i p j ▸ div_real _
  have hre : ∀ j, IsReal (scaled (proj x kw kb) (proj x qw qb) j) := by
    intro j
    rw [eq_ix3 j]
    exact hr _ _ _
  obtain ⟨μ, hμ⟩ := Cert.ReferenceIdeal.Read.rowMax_real _ hre (ix2 i p)
  refine ⟨μ * Real.sqrt 131072, fun k => ?_⟩
  have he : ∀ j, expo (scaled (proj x kw kb) (proj x qw qb)) (rowMax (scaled (proj x kw kb) (proj x qw qb))) (ix3 i p j) = (wt (s i p j) (μ * Real.sqrt 131072) : EReal) := by
    intro j
    rw [Cert.ReferenceIdeal.Read.expo_apply, hμ, hsc, exp_eq]
  rw [plain, Cert.ReferenceIdeal.Read.restore_apply]
  simp only [Cert.ReferenceIdeal.Read.attend_apply, he, Cert.ReferenceIdeal.Read.proj_apply]
  rfl

variable (m : (ℓ : Loc nD τ sig) → Buf (Elt Ideal) ℓ) (c : Dev nD)

/-- The kernel's array is the reference's, when the input, the keys' and the queries' weights and biases are finite. -/
theorem G9_eq_plain (hx : ∀ i, IsReal (m ((c : Thread nD τ).loc main_arg0) i)) (hkw : ∀ i, IsReal (m ((c : Thread nD τ).loc main_arg1) i))
    (hkb : ∀ i, IsReal (m ((c : Thread nD τ).loc main_arg2) i)) (hqw : ∀ i, IsReal (m ((c : Thread nD τ).loc main_arg3) i))
    (hqb : ∀ i, IsReal (m ((c : Thread nD τ).loc main_arg4) i)) :
    Cert.KernelIdeal.Value.G9 m c = plain (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  have real : ∀ i p j, IsReal (∑ d : Fin 128, (projAt (m ((c : Thread nD τ).loc main_arg0)) (m ((c : Thread nD τ).loc main_arg1)) (m ((c : Thread nD τ).loc main_arg2)) i p d
      * projAt (m ((c : Thread nD τ).loc main_arg0)) (m ((c : Thread nD τ).loc main_arg3)) (m ((c : Thread nD τ).loc main_arg4)) i j d : EReal)) := fun i p j =>
    real_sum _ _ fun d => real_mul (projAt_real _ _ _ hx hkw hkb i p d) (projAt_real _ _ _ hx hqw hqb i j d)
  choose s hs using real
  funext e
  rw [eq_ix3 e]
  generalize e 0 = b, e 1 = n, e 2 = k
  change Fin 4 at b
  change Fin 4096 at n
  change Fin 512 at k
  have h : 4 * b.val + n.val / 1024 < cfg0.N := lt_of_lt_of_eq (by omega : _ < 16) N_0.symm
  obtain ⟨M, hM⟩ := plain_apply _ _ _ _ _ (m ((c : Thread nD τ).loc main_arg5)) (m ((c : Thread nD τ).loc main_arg6)) (m ((c : Thread nD τ).loc main_arg7)) (m ((c : Thread nD τ).loc main_arg8)) s hs b n
  have hb : (firstPt (4 * b.val + n.val / 1024) h).val / 4 = b.val := by
    show 4 * ((4 * b.val + n.val / 1024) / 4) / 4 = b.val
    omega
  have hc := coords_one ⟨4 * b.val + n.val / 1024, h⟩
  have hrow : 1024 * (grid0.coords ⟨4 * b.val + n.val / 1024, h⟩ 1).val + n.val % 1024 = n.val := by
    rw [hc]
    show 1024 * ((4 * b.val + n.val / 1024) % 4) + n.val % 1024 = n.val
    omega
  rw [hM, G9_eq m c b n k h, out_eq m c _ h,
    blockOut_apply _ (grid0.coords ⟨4 * b.val + n.val / 1024, h⟩ 1).isLt _ _ _ _ _ _ k (s b n) M]
  · simp only [vpAt_apply m c _ b hb, blk_rw, blk_rb]
  · intro j
    rw [← hs]
    refine Finset.sum_congr rfl fun d _ => ?_
    rw [qtAt_apply m c _ b hb, kkAt_apply m c _ b hb]
    congr 2
    exact Fin.ext hrow
  · exact fun j d => pay5_one _ _ _ _ _ _ _ j d

end Cert.KernelIdeal.Block
-- ==== Proof.Pre.lean ====
/-
  THE PRECONDITION, READ: the input and the key and query weights and biases are finite, so the projected keys and
  queries are.
-/
module

public import proofs.«01_k».proof.Pre_scores_real
public import proofs.«01_k».proof.Proof.Soft
public import Idealize.ShloMosaic.Lib.ReduceAll

@[expose] public section

noncomputable section

namespace Cert.Pre_scores_real

open Cert.Soft Idealize.ShloMosaic

/-- The shape relations the predicate states. -/
theorem facts : Facts where
  bcast_S_S4x16x16x16x512 := by decide
  reducesTo_S4x16x16x16x512_S_d0_1_2_3_4 := by decide
  h_S_ := by decide
  bcast_S_S512x128 := by decide
  reducesTo_S512x128_S_d0_1 := by decide
  bcast_S_S128 := by decide
  reducesTo_S128_S_d0 := by decide

/-- A number whose absolute value is below infinity is finite. -/
theorem real_of_abs_lt (a : Ideal .f32) (h : FloatOps.cmpf .olt (FloatOps.hostAbsf a) (FloatOps.ofBits .f32 0x7F800000#32) = 1#1) : IsReal a := by
  have e : Ideal.ofBits .f32 0x7F800000#32 = ⊤ := by simp [Ideal.ofBits, Ideal.ieee]
  have h' : Ideal.cmp .olt (max a (-a) : EReal) (Ideal.ofBits .f32 0x7F800000#32) = 1#1 := h
  rw [e] at h'
  revert h'
  induction a using EReal.rec with
  | bot => intro h'; simp [Ideal.cmp] at h'
  | top => intro h'; simp [Ideal.cmp] at h'
  | coe r => exact fun _ => ⟨r, rfl⟩

/-- The predicate gives the finiteness of the five arrays, entry by entry. -/
theorem finite_of_fn [Facts] (x : FVec Ideal S4x16x16x16x512 .f32) (kw : FVec Ideal S512x128 .f32) (kb : FVec Ideal S128 .f32) (qw : FVec Ideal S512x128 .f32)
    (qb : FVec Ideal S128 .f32) (vw : FVec Ideal S512x128 .f32) (vb : FVec Ideal S128 .f32) (rw : FVec Ideal S128x512 .f32) (rb : FVec Ideal S512 .f32)
    (h : fn (F := Ideal) x kw kb qw qb vw vb rw rb = fun _ => 1#1) :
    (∀ i, IsReal (x i)) ∧ (∀ i, IsReal (kw i)) ∧ (∀ i, IsReal (kb i)) ∧ (∀ i, IsReal (qw i)) ∧ (∀ i, IsReal (qb i)) := by
  have andi_one (a b : BitVec 1) : IntOp.andi a b = 1#1 ↔ a = 1#1 ∧ b = 1#1 := by revert a b; decide
  have h0 := congrFun h (fun a => a.elim0)
  dsimp only [fn, fn_part1] at h0
  simp only [andi, andi_one] at h0
  obtain ⟨⟨⟨⟨hx, hkw⟩, hkb⟩, hqw⟩, hqb⟩ := h0
  exact ⟨fun i => real_of_abs_lt _ (Host.reduce_andi_all _ _ _ _ _ hx i), fun i => real_of_abs_lt _ (Host.reduce_andi_all _ _ _ _ _ hkw i),
    fun i => real_of_abs_lt _ (Host.reduce_andi_all _ _ _ _ _ hkb i), fun i => real_of_abs_lt _ (Host.reduce_andi_all _ _ _ _ _ hqw i),
    fun i => real_of_abs_lt _ (Host.reduce_andi_all _ _ _ _ _ hqb i)⟩

end Cert.Pre_scores_real
-- ==== Proof.lean ====
/-
  THE CERTIFICATE: the kernel and its idealization leave their arguments alone and end with every semaphore at zero, so
  does the reference; the idealization writes the scale as the number it stands for; and on finite inputs, weights and
  biases of the keys and queries the idealized kernel and the reference end with equal arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

local instance : Cert.Pre_scores_real.Facts := Cert.Pre_scores_real.facts

/-- From memories that agree on the arguments, the kernel's array is the reference's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_scores_real m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v36 m' c = Cert.KernelIdeal.Value.G9 m c := by
  obtain ⟨hx, hkw, hkb, hqw, hqb⟩ := Cert.Pre_scores_real.finite_of_fn _ _ _ _ _ _ _ _ _ (hp c)
  rw [Cert.KernelIdeal.Block.G9_eq_plain m c hx hkw hkb hqw hqb, Cert.ReferenceIdeal.Read.result_eq, h0, h1, h2, h3, h4, h5, h6, h7, h8]
  rfl

/-- The reference leaves its arguments alone and its semaphores at zero. -/
theorem frame_reference : Cert.quiescent_ReferenceIdeal := fun m ρ _ =>
  (θ_run _ _ _).mono (fun r h => ⟨fun c => (h c).2, sem_eq_zero_of_no_sems rfl r.2⟩) (Cert.ReferenceIdeal.Value.run (F := Ideal) m ρ)

/-- The certificate's claims, all of them. -/
theorem claim : Cert.Claim :=
  ⟨Cert.Kernel.Gen.facts, Cert.KernelIdeal.Gen.facts, Cert.ReferenceIdeal.Gen.facts, Cert.Pre_scores_real.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    ⟨IdealRules.named_const.statement _ _ _ _ _ rfl, IdealRules.named_const.statement _ _ _ _ _ rfl⟩,
    fun m ρ m' ρ' hp ha => ⟨fun c => Cert.KernelIdeal.Value.G9 m c, Cert.KernelIdeal.Value.run m ρ,
      (θ_run _ _ _).mono (fun _ h c => by
        obtain ⟨h0, h1, h2, h3, h4, h5, h6, h7, h8⟩ := ha c
        exact ⟨(h c).1.trans (result_eq m m' hp c h0 h1 h2 h3 h4 h5 h6 h7 h8), (h c).2⟩) (Cert.ReferenceIdeal.Value.run m' ρ')⟩⟩

end Cert.Proof

end
